-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S20480x128 : Shape := ⟨2, ![20480, 128]⟩
abbrev S20480x20480 : Shape := ⟨2, ![20480, 20480]⟩
abbrev S128x128 : Shape := ⟨2, ![128, 128]⟩
abbrev S_ : Shape := ⟨0, ![]⟩

class Facts : Prop where
  bcast_S_S20480x128 : S_.BroadcastsInDim S20480x128 (![] : Fin 0 → Fin S20480x128.rank)
  reducesTo_S20480x128_S_d0_1 : S20480x128.ReducesTo [0, 1] S_
  h_S_ : 0 < S_.numel
  bcast_S_S20480x20480 : S_.BroadcastsInDim S20480x20480 (![] : Fin 0 → Fin S20480x20480.rank)
  reducesTo_S20480x20480_S_d0_1 : S20480x20480.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S20480x128 .f32) (main_arg1 : FVec F S20480x20480 .f32) (main_arg2 : FVec F S128x128 .f32) : IVec S_ 1 :=
  let main_v0 : FVec F S20480x128 .f32 := Host.absf main_arg0
  let main_cst : FVec F S_ .f32 := constant S_ .f32 0x7F800000#32
  let main_v1 : FVec F S20480x128 .f32 := broadcastInDim S20480x128 ![] bcast_S_S20480x128 main_cst
  let main_v2 : IVec S20480x128 1 := cmpf .olt main_v0 main_v1
  let main_c : IVec S_ 1 := constantI S_ 1 1#1
  let main_v3 : IVec S_ 1 := (fun x v => Host.reduce IntOp.andi x v reducesTo_S20480x128_S_d0_1 h_S_) main_v2 main_c
  let main_v4 : FVec F S20480x20480 .f32 := Host.absf main_arg1
  let main_cst_0 : FVec F S_ .f32 := constant S_ .f32 0x7F800000#32
  let main_v5 : FVec F S20480x20480 .f32 := broadcastInDim S20480x20480 ![] bcast_S_S20480x20480 main_cst_0
  let main_v6 : IVec S20480x20480 1 := cmpf .olt main_v4 main_v5
  let main_c_1 : IVec S_ 1 := constantI S_ 1 1#1
  let main_v7 : IVec S_ 1 := (fun x v => Host.reduce IntOp.andi x v reducesTo_S20480x20480_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S20480x128 : Shape := ⟨2, ![20480, 128]⟩
abbrev S20480x20480 : Shape := ⟨2, ![20480, 20480]⟩
abbrev S128x128 : Shape := ⟨2, ![128, 128]⟩
abbrev S128x20480 : Shape := ⟨2, ![128, 20480]⟩

abbrev nBuf : Space → Nat
  | .hbm => 4
  | .vmem => 6
  | .smem => 0
  | _ => 0

abbrev bufTy : (tb : Table) → Fin (tcTables nBuf tb) → BufTy
  | .hbm, ⟨0, _⟩ => ⟨S20480x128, .f32⟩
  | .hbm, ⟨1, _⟩ => ⟨S20480x20480, .f32⟩
  | .hbm, ⟨2, _⟩ => ⟨S128x128, .f32⟩
  | .hbm, ⟨3, _⟩ => ⟨S20480x128, .f32⟩
  | .local _ .vmem, ⟨0, _⟩ => ⟨S128x20480, .f32⟩
  | .local _ .vmem, ⟨1, _⟩ => ⟨S128x20480, .f32⟩
  | .local _ .vmem, ⟨2, _⟩ => ⟨S20480x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | _, _ => ⟨S20480x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x20480 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S20480x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S20480x128 : Shape := ⟨2, ![20480, 128]⟩
abbrev S20480x20480 : Shape := ⟨2, ![20480, 20480]⟩
abbrev S128x128 : Shape := ⟨2, ![128, 128]⟩

abbrev nBuf : Space → Nat
  | .hbm => 5
  | .vmem => 0
  | .smem => 0
  | _ => 0

abbrev bufTy : (tb : Table) → Fin (tcTables nBuf tb) → BufTy
  | .hbm, ⟨0, _⟩ => ⟨S20480x128, .f32⟩
  | .hbm, ⟨1, _⟩ => ⟨S20480x20480, .f32⟩
  | .hbm, ⟨2, _⟩ => ⟨S128x128, .f32⟩
  | .hbm, ⟨3, _⟩ => ⟨S20480x128, .f32⟩
  | .hbm, ⟨4, _⟩ => ⟨S20480x128, .f32⟩
  | _, _ => ⟨S20480x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Proof.Reassociate.lean ====
/-
  Reassociating a product of three matrices over the extended reals. With finite entries
  `(A X) W = A (X W)` entry by entry; with infinite ones it fails (`∞ - ∞` against `∞ · 0`), so
  finiteness is assumed of every entry.
-/
module

public import Mathlib.Data.EReal.Operations
public import Mathlib.Algebra.BigOperators.Ring.Finset
public import Mathlib.Algebra.BigOperators.Group.Finset.Sigma

@[expose] public section

namespace Cert.Reassociate

open scoped BigOperators

/-- An extended real is finite: it is neither `⊤` nor `⊥`. -/
def Finite (a : EReal) : Prop := a ≠ ⊤ ∧ a ≠ ⊥

/-- A finite extended real is the real number that it denotes. -/
theorem Finite.coe {a : EReal} (h : Finite a) : ((a.toReal : ℝ) : EReal) = a :=
  EReal.coe_toReal h.1 h.2

/-- A number whose absolute value, `max a (-a)`, is below `⊤` is finite. -/
theorem finite_of_abs_lt {a : EReal} (h : max a (-a) < ⊤) : Finite a := by
  obtain ⟨h1, h2⟩ := max_lt_iff.1 h
  refine ⟨h1.ne, fun e => ?_⟩
  subst e
  simp at h2

/-- A finite sum of real numbers is the same number whether it is taken among the reals or among
    the extended reals. -/
theorem coe_sum {ι : Type*} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

/-- Row `a` of one matrix, a matrix `X`, column `w` of another, all real: both bracketings of the
    product are the same double sum. -/
theorem real_reassoc {κ ι : Type*} [Fintype κ] [Fintype ι] (a : κ → ℝ) (X : κ → ι → ℝ) (w : ι → ℝ) :
    ∑ j, (∑ k, a k * X k j) * w j = ∑ k, a k * ∑ j, X k j * w j := by
  simp_rw [Finset.sum_mul, Finset.mul_sum]
  rw [Finset.sum_comm]
  exact Finset.sum_congr rfl fun k _ => Finset.sum_congr rfl fun j _ => mul_assoc _ _ _

/-- The same over the extended reals, where every entry is finite. -/
theorem reassoc {κ ι : Type*} [Fintype κ] [Fintype ι] {a : κ → EReal} {X : κ → ι → EReal} {w : ι → EReal}
    (ha : ∀ k, Finite (a k)) (hX : ∀ k j, Finite (X k j)) (hw : ∀ j, Finite (w j)) :
    ∑ j, (∑ k, a k * X k j) * w j = ∑ k, a k * ∑ j, X k j * w j := by
  have e := congrArg (fun r : ℝ => (r : EReal))
    (real_reassoc (fun k => (a k).toReal) (fun k j => (X k j).toReal) (fun j => (w j).toReal))
  simpa only [coe_sum, EReal.coe_mul, (ha _).coe, (hX _ _).coe, (hw _).coe] using e

end Cert.Reassociate
-- ==== Proof.Finiteness.lean ====
/-
  What the precondition `finite` says, read at an index: every entry of the three arguments is a
  finite extended real.
-/
module

public import proofs.«01_k».proof.Pre_finite
public import proofs.«01_k».proof.Proof.Reassociate
public import Idealize.ShloMosaic.Lib.ReduceAll
public import Idealize.ShloMosaic.Lib.IdealHost

@[expose] public section

set_option maxRecDepth 16384

noncomputable section

namespace Cert.Finiteness

open Idealize.ShloMosaic Idealize.ShloMosaic.ValueIdx Cert.Pre_finite Cert.Reassociate

/-- The f32 pattern of `+∞` is `⊤`. -/
theorem inf_f32 : Ideal.ofBits .f32 0x7F800000#32 = ⊤ := by simp [Ideal.ofBits, Ideal.ieee]

/-- Where the comparison `|v| < +∞` gave 1, the entry is finite. -/
theorem finite_of_cmp {S : Shape} (v : FVec Ideal S .f32) (h : S_.BroadcastsInDim S (![] : Fin 0 → Fin S.rank)) (i : S.Idx)
    (e : cmpf .olt (Host.absf v) (broadcastInDim S ![] h (constant (F := Ideal) S_ .f32 0x7F800000#32)) i = 1#1) :
    Finite (v i) := by
  have e' : Ideal.cmp .olt (max (v i : EReal) (-(v i : EReal))) (Ideal.ofBits .f32 0x7F800000#32) = 1#1 := e
  rw [inf_f32] at e'
  refine finite_of_abs_lt ?_
  by_contra hn
  simp [Ideal.cmp, hn] at e'

/-- A rank-zero array has one index. -/
instance : Subsingleton S_.Idx := ⟨fun a b => funext fun k => k.elim0⟩

/-- The precondition gives finiteness of every entry of `x`, `adj` and `W`. -/
theorem of_pre [Facts] (x : FVec Ideal S20480x128 .f32) (adj : FVec Ideal S20480x20480 .f32) (W : FVec Ideal S128x128 .f32)
    (h : fn x adj W = fun _ => 1#1) :
    (∀ i, Finite (x i)) ∧ (∀ i, Finite (adj i)) ∧ ∀ i, Finite (W i) := by
  have h0 := congrFun h ix0
  obtain ⟨hxa, hW⟩ := IntOp.andi_eq_one.1 h0
  obtain ⟨hx, ha⟩ := IntOp.andi_eq_one.1 hxa
  exact ⟨fun i => finite_of_cmp x _ i (Host.reduce_andi_all _ _ _ _ _ hx i),
    fun i => finite_of_cmp adj _ i (Host.reduce_andi_all _ _ _ _ _ ha i),
    fun i => finite_of_cmp W _ i (Host.reduce_andi_all _ _ _ _ _ hW i)⟩

end Cert.Finiteness

end
-- ==== Proof.Products.lean ====
/-
  The two bracketings of the graph layer's product over the extended reals, as functions of the
  whole arguments, and their equality at finite arguments. The reference multiplies `adj (x W)`, the
  kernel `(adj x) W`.
-/
module

public import proofs.«01_k».proof.Proof.Gen.ReferenceIdeal
public import proofs.«01_k».proof.Proof.Reassociate
public import Idealize.ShloMosaic.Lib.Pointwise

@[expose] public section

set_option maxRecDepth 16384

noncomputable section

namespace Cert.Products

open Idealize.ShloMosaic Cert.Reassociate
open Cert.ReferenceIdeal
open scoped BigOperators

/-- `(adj x) W` at row `r` and column `q`. -/
def aggregated (x : FVec Ideal S20480x128 .f32) (adj : FVec Ideal S20480x20480 .f32) (W : FVec Ideal S128x128 .f32) :
    FVec Ideal S20480x128 .f32 :=
  fun i => ∑ j : Fin 128, (∑ k : Fin 20480, (adj (ix2 (i 0) k) : EReal) * x (ix2 k j)) * W (ix2 j (i 1))

/-- The reference's two products, `adj (x W)`. -/
def projected (x : FVec Ideal S20480x128 .f32) (adj : FVec Ideal S20480x20480 .f32) (W : FVec Ideal S128x128 .f32) :
    FVec Ideal S20480x128 .f32 :=
  Host.dotGeneral (F := Ideal) (φ₁ := .f32) (φ₂ := .f32) dot_S20480x20480_S20480x128_S20480x128_1_0_0_1_n_n none adj
    (Host.dotGeneral (F := Ideal) (φ₁ := .f32) (φ₂ := .f32) dot_S20480x128_S128x128_S20480x128_1_0_0_1_n_n none x W)

/-- The reference read at row `r` and column `q`. -/
theorem projected_apply (x : FVec Ideal S20480x128 .f32) (adj : FVec Ideal S20480x20480 .f32) (W : FVec Ideal S128x128 .f32)
    (r : Fin 20480) (q : Fin 128) :
    projected x adj W (ix2 r q)
      = ∑ k : Fin 20480, (adj (ix2 r k) : EReal) * ∑ j : Fin 128, (x (ix2 k j) : EReal) * W (ix2 j q) := by
  pointwise [projected]

/-- At finite arguments the two bracketings are the same array. -/
theorem aggregated_eq_projected {x : FVec Ideal S20480x128 .f32} {adj : FVec Ideal S20480x20480 .f32}
    {W : FVec Ideal S128x128 .f32} (hx : ∀ i, Finite (x i)) (ha : ∀ i, Finite (adj i)) (hW : ∀ i, Finite (W i)) :
    aggregated x adj W = projected x adj W := by
  funext i
  rw [eq_ix2 i]
  refine Eq.trans ?_ (projected_apply x adj W _ _).symm
  exact reassoc (fun k => ha _) (fun k j => hx _) (fun j => hW _)

end Cert.Products

end
-- ==== Proof.Layer.lean ====
/-
  What the kernel leaves in its result array: `(adj x) W`, row block by row block. Grid point `t`
  holds rows `128 t .. 128 t + 127` of `adj` and the whole of `x` and `W`.
-/
module

public import proofs.«01_k».proof.Proof.Gen.KernelIdeal.Frame
public import proofs.«01_k».proof.Proof.Products
public import Idealize.ShloMosaic.Lib.Pipeline.ValueKit

@[expose] public section

set_option maxRecDepth 16384

noncomputable section

namespace Cert.Layer

open Idealize.ShloMosaic Idealize.ShloMosaic.TcCoe Idealize.SL.Sem
open Cert.KernelIdeal Cert.KernelIdeal.Gen Cert.Products

variable (m : (ℓ : Loc nD τ sig) → Buf (Elt Ideal) ℓ)

/-- Which block each window is at, at every grid point. -/
theorem block_at : ∀ t : Fin cfg0.N, win0_0.index t = ![t.val, 0] ∧ win0_1.index t = ![0, 0]
    ∧ win0_2.index t = ![0, 0] ∧ win0_3.index t = ![t.val, 0] :=
  (by decide +kernel : ∀ t : Fin grid0.N, win0_0.index t = ![t.val, 0] ∧ win0_1.index t = ![0, 0]
    ∧ win0_2.index t = ![0, 0] ∧ win0_3.index t = ![t.val, 0])

/-- What the body stores at entry `y` of point `t`'s block is `(adj x) W` at the place of `y` in the array. -/
theorem stored (c : Dev nD) (t : Fin cfg0.N) (y) :
    k0_pay1 (iblk m c 0 t) (iblk m c 1 t) (iblk m c 2 t) y
      = aggregated (m ((c : Thread nD τ).loc main_arg0)) (m ((c : Thread nD τ).loc main_arg1))
          (m ((c : Thread nD τ).loc main_arg2)) (((cfg0.win 3).blk t).view.emb y) := by
  pointwise [k0_pay1, aggregated]
  blk_point [iblk, V, block_at t]

/-- After the run the result array is `(adj x) W` of the arguments. -/
theorem result (c : Dev nD) :
    (dats m 0 c).arrAt 3 (cfgs 0).N
      = aggregated (m ((c : Thread nD τ).loc main_arg0)) (m ((c : Thread nD τ).loc main_arg1))
          (m ((c : Thread nD τ).loc main_arg2)) := by
  refine (dats m 0 c).arrAt_eq_of_covers 3 _ (by decide +kernel) fun t _ y => ?_
  blk_simp
  rw [after0_3]
  frame_out
  exact stored m c t y

end Cert.Layer

end
-- ==== Proof.lean ====
/-
  The certificate of the graph layer kernel: it runs and leaves its arguments alone, its idealization
  is its own text, and over the extended reals its result is the reference's wherever the arguments
  are finite.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite
public import proofs.«01_k».proof.Proof.Finiteness
public import proofs.«01_k».proof.Proof.Layer
public import Idealize.ShloMosaic.Adequacy
public import Idealize.ShloMosaic.Init
public import Idealize.ShloMosaic.Lib.Quiescent

@[expose] public section

noncomputable section

namespace Cert.Proof

open Idealize.ShloMosaic Idealize.SL.Sem

/-- The kernel at machine floats runs, keeps its arguments and ends with every counter at zero. -/
theorem kernel_quiet : Cert.quiescent_Kernel := fun m g _ => Cert.Kernel.Gen.frame m g

/-- The same of the kernel over the extended reals. -/
theorem ideal_quiet : Cert.quiescent_KernelIdeal := fun m g _ => Cert.KernelIdeal.Gen.frame m g

/-- The same under the precondition, which it does not use. -/
theorem ideal_quiet_finite : Cert.quiescent_KernelIdeal_pre_finite := fun m g _ => Cert.KernelIdeal.Gen.frame m g

/-- The reference over the extended reals, from any memory, runs, keeps its arguments and ends with every
    counter at zero: it has no semaphore. -/
theorem reference_quiet : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

/-- The same under the precondition, which it does not use. -/
theorem reference_quiet_finite : Cert.quiescent_ReferenceIdeal_pre_finite := fun m g _ => reference_quiet m g trivial

/-- The idealization is the kernel's own text: nothing was rewritten. -/
theorem unchanged_text : Cert.preserves_Kernel_KernelIdeal := trivial

/-- Over the extended reals, from finite arguments, kernel and reference end with the same array:
    the kernel's `(adj x) W` is the reference's `adj (x W)`. -/
theorem same_result : Cert.algebraic_KernelIdeal_ReferenceIdeal_pre_finite := by
  intro m g m' g' hpre hagree
  refine ⟨fun c => Cert.Products.aggregated (m (c.tc.loc Cert.KernelIdeal.main_arg0))
    (m (c.tc.loc Cert.KernelIdeal.main_arg1)) (m (c.tc.loc Cert.KernelIdeal.main_arg2)), ?_, ?_⟩
  · exact (θ_run Cert.KernelIdeal.defs _ _).mono (fun _ h c => ⟨(h c).1.trans (Cert.Layer.result m c), (h c).2⟩)
      (Cert.KernelIdeal.Value.run_blocks (F := Ideal) m g)
  · refine (θ_run Cert.ReferenceIdeal.defs _ _).mono (fun _ h c => ⟨(h c).1.trans ?_, (h c).2⟩)
      (Cert.ReferenceIdeal.Value.run (F := Ideal) m' g')
    obtain ⟨hx, ha, hW⟩ := Cert.Finiteness.of_pre _ _ _ (hpre c)
    rw [(hagree c).1, (hagree c).2.1, (hagree c).2.2]
    exact (Cert.Products.aggregated_eq_projected hx ha hW).symm

/-- The whole certificate: the five runs, the idealization and the equality of the results. -/
theorem claim : Cert.Claim :=
  ⟨Cert.Kernel.Gen.facts, Cert.KernelIdeal.Gen.facts, Cert.ReferenceIdeal.Gen.facts, Cert.Pre_finite.Gen.facts,
    kernel_quiet, ideal_quiet, ideal_quiet_finite, reference_quiet, reference_quiet_finite, unchanged_text, same_result⟩

end Cert.Proof

end
